-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x5632 : Shape := ⟨3, ![24, 1, 5632]⟩
abbrev S5632x8192 : Shape := ⟨2, ![5632, 8192]⟩
abbrev S8192 : Shape := ⟨1, ![8192]⟩
abbrev S24x5632 : Shape := ⟨2, ![24, 5632]⟩
abbrev S1x8192 : Shape := ⟨2, ![1, 8192]⟩
abbrev S24x8192 : Shape := ⟨2, ![24, 8192]⟩
abbrev S5632x512 : Shape := ⟨2, ![5632, 512]⟩
abbrev S1x512 : Shape := ⟨2, ![1, 512]⟩
abbrev S24x512 : Shape := ⟨2, ![24, 512]⟩
abbrev S24x1x8192 : Shape := ⟨3, ![24, 1, 8192]⟩

abbrev nBuf : Space → Nat
  | .hbm => 9
  | .vmem => 9
  | .smem => 0
  | _ => 0

abbrev bufTy : (tb : Table) → Fin (tcTables nBuf tb) → BufTy
  | .hbm, ⟨0, _⟩ => ⟨S24x1x5632, .bf16⟩
  | .hbm, ⟨1, _⟩ => ⟨S5632x8192, .fp8e4m3⟩
  | .hbm, ⟨2, _⟩ => ⟨S8192, .f32⟩
  | .hbm, ⟨3, _⟩ => ⟨S8192, .f32⟩
  | .hbm, ⟨4, _⟩ => ⟨S24x5632, .bf16⟩
  | .hbm, ⟨5, _⟩ => ⟨S1x8192, .f32⟩
  | .hbm, ⟨6, _⟩ => ⟨S1x8192, .f32⟩
  | .hbm, ⟨7, _⟩ => ⟨S24x8192, .bf16⟩
  | .hbm, ⟨8, _⟩ => ⟨S24x1x8192, .bf16⟩
  | .local _ .vmem, ⟨0, _⟩ => ⟨S24x5632, .bf16⟩
  | .local _ .vmem, ⟨1, _⟩ => ⟨S5632x512, .fp8e4m3⟩
  | .local _ .vmem, ⟨2, _⟩ => ⟨S5632x512, .fp8e4m3⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S24x512, .bf16⟩
  | .local _ .vmem, ⟨8, _⟩ => ⟨S24x512, .bf16⟩
  | _, _ => ⟨S24x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5632x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x1x5632 : Shape := ⟨3, ![24, 1, 5632]⟩
abbrev S5632x8192 : Shape := ⟨2, ![5632, 8192]⟩
abbrev S8192 : Shape := ⟨1, ![8192]⟩
abbrev S24x1x8192 : Shape := ⟨3, ![24, 1, 8192]⟩
abbrev S1x8192 : Shape := ⟨2, ![1, 8192]⟩
abbrev S1x1x8192 : Shape := ⟨3, ![1, 1, 8192]⟩

abbrev nBuf : Space → Nat
  | .hbm => 5
  | .vmem => 5
  | .smem => 0
  | _ => 0

abbrev bufTy : (tb : Table) → Fin (tcTables nBuf tb) → BufTy
  | .hbm, ⟨0, _⟩ => ⟨S24x1x5632, .bf16⟩
  | .hbm, ⟨1, _⟩ => ⟨S5632x8192, .fp8e4m3⟩
  | .hbm, ⟨2, _⟩ => ⟨S8192, .f32⟩
  | .hbm, ⟨3, _⟩ => ⟨S8192, .f32⟩
  | .hbm, ⟨4, _⟩ => ⟨S24x1x8192, .bf16⟩
  | .local _ .vmem, ⟨0, _⟩ => ⟨S24x1x5632, .bf16⟩
  | .local _ .vmem, ⟨1, _⟩ => ⟨S5632x8192, .fp8e4m3⟩
  | .local _ .vmem, ⟨2, _⟩ => ⟨S8192, .f32⟩
  | .local _ .vmem, ⟨3, _⟩ => ⟨S8192, .f32⟩
  | .local _ .vmem, ⟨4, _⟩ => ⟨S24x1x8192, .bf16⟩
  | _, _ => ⟨S24x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x1x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5632x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/- The function that the kernel and the reference compute over the extended reals, written once over plain
   arrays: `linear`, the dequantised product plus the bias. -/
module

public import Idealize.ShloMosaic.Lib.Pointwise

@[expose] public section

noncomputable section

namespace Cert.Linear

open Idealize.ShloMosaic

/-- The linear layer at one batch row `r` and one output column `n`: the sum over the model axis of the activation
    times the dequantised weight (the code times its column's scale), plus the column's bias. -/
def element (x : (⟨3, ![24, 1, 5632]⟩ : Shape).Idx → EReal) (w : (⟨2, ![5632, 8192]⟩ : Shape).Idx → EReal)
    (s b : (⟨1, ![8192]⟩ : Shape).Idx → EReal) (r : Fin 24) (n : Fin 8192) : EReal :=
  (∑ k : Fin 5632, x (ix3 r 0 k) * (w (ix2 k n) * s (ix1 n))) + b (ix1 n)

/-- The whole result, `[24, 1, 8192]`, read at an index. -/
def linear (x : (⟨3, ![24, 1, 5632]⟩ : Shape).Idx → EReal) (w : (⟨2, ![5632, 8192]⟩ : Shape).Idx → EReal)
    (s b : (⟨1, ![8192]⟩ : Shape).Idx → EReal) : (⟨3, ![24, 1, 8192]⟩ : Shape).Idx → EReal :=
  fun i => element x w s b (i 0) (i 2)

end Cert.Linear

end
-- ==== Proof.KernelValue.lean ====
/- What the kernel computes: each grid point writes one block of 512 columns of the linear layer, the 16 blocks make up
   the whole `[24, 8192]` array, and the reshape after the pallas_call gives `Linear.linear` of the four arguments. -/
module

public import proofs.«01_k».proof.Proof.Gen.KernelIdeal.Frame
public import Idealize.ShloMosaic.Lib.Pipeline.Value
public import proofs.«01_k».proof.Proof.Spec

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The value that the body stores at one grid point, at row `r` and column `n` of the block: the product of the
    activations with the block of dequantised weights, plus the block of the bias. -/
theorem stored_apply (w : Vec Ideal S5632x512 .fp8e4m3) (s : Vec Ideal S1x512 .f32) (x : Vec Ideal S24x5632 .bf16)
    (b : Vec Ideal S1x512 .f32) (r : Fin 24) (n : Fin 512) :
    k0_pay1 (F := Ideal) w s x b (ix2 r n)
      = ((∑ k : Fin 5632, (x (ix2 r k) : EReal) * ((w (ix2 k n) : EReal) * s (ix2 0 n))) + b (ix2 0 n) : EReal) := by
  pointwise [k0_pay1]

variable (m : (ℓ : Loc nD τ sig) → Buf (Elt Ideal) ℓ) (ρ : Dev nD → PrngReg)

/-- The layer of the arguments as launched. -/
abbrev result (c : Dev nD) : S24x1x8192.Idx → EReal :=
  Linear.linear (m ((c : Thread nD τ).loc main_arg0)) (m ((c : Thread nD τ).loc main_arg1))
    (m ((c : Thread nD τ).loc main_arg2)) (m ((c : Thread nD τ).loc main_arg3))

/-- The array that the pallas_call returns: the same values, without the unit axis. -/
def result2 (c : Dev nD) : S24x8192.Idx → EReal := fun i => result m c (ix3 (i 0) 0 (i 1))

/-! ## The arrays that the pallas_call finds -/

/-- Dropping the activations' unit axis, read at an index. -/
theorem dropUnit_apply (x : Vec Ideal S24x1x5632 .bf16) (r : Fin 24) (k : Fin 5632) :
    shapeCast S24x5632 x shapeCasts_S24x1x5632_S24x5632 (ix2 r k) = x (ix3 r 0 k) := by
  pointwise

/-- A vector as one row, read at an index. -/
theorem row_apply (x : Vec Ideal S8192 .f32) (n : Fin 8192) :
    shapeCast S1x8192 x shapeCasts_S8192_S1x8192 (ix2 0 n) = x (ix1 n) := by
  pointwise

/-- The result's unit axis, read at an index. -/
theorem addUnit_apply (x : Vec Ideal S24x8192 .bf16) (r : Fin 24) (u : Fin 1) (n : Fin 8192) :
    shapeCast S24x1x8192 x shapeCasts_S24x8192_S24x1x8192 (ix3 r u n) = x (ix2 r n) := by
  pointwise

/-- The activations' unit axis is dropped before the call. -/
theorem V_v0 (c : Dev nD) : V m c main_v0 = shapeCast S24x5632 (m ((c : Thread nD τ).loc main_arg0)) shapeCasts_S24x1x5632_S24x5632 := by
  unfold V V0 hostOps0
  simp only [List.flatten_cons, List.flatten_nil, List.append_nil]
  after_results
  rfl

/-- The scales as one row. -/
theorem V_v1 (c : Dev nD) : V m c main_v1 = shapeCast S1x8192 (m ((c : Thread nD τ).loc main_arg2)) shapeCasts_S8192_S1x8192 := by
  unfold V V0 hostOps0
  simp only [List.flatten_cons, List.flatten_nil, List.append_nil]
  after_results
  rfl

/-- The bias as one row. -/
theorem V_v2 (c : Dev nD) : V m c main_v2 = shapeCast S1x8192 (m ((c : Thread nD τ).loc main_arg3)) shapeCasts_S8192_S1x8192 := by
  unfold V V0 hostOps0
  simp only [List.flatten_cons, List.flatten_nil, List.append_nil]
  after_results
  rfl

/-! ## The blocks -/

/-- The printed index maps: at point `t` every blocked window is at column block `t`, the activations are whole. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Column `n` of point `t`'s block is column `512 t + n` of the array. -/
def col (t : Fin cfg0.N) (n : Fin 512) : Fin 8192 :=
  ⟨t.val * 512 + n.val, by have h : t.val < 16 := t.isLt; omega⟩

/-- Where an element of each window's block lies in its array. -/
theorem emb0 (t : Fin cfg0.N) (r : Fin 24) (k : Fin 5632) : ((cfg0.win 0).blk t).view.emb (ix2 r k) = ix2 r k := by
  obtain ⟨e0, e1, -⟩ := idx_facts t
  funext a; apply Fin.ext
  match a with
  | ⟨0, _⟩ => show win0_0.index t (0 : Fin 2) * 24 + 1 * r.val = r.val; omega
  | ⟨1, _⟩ => show win0_0.index t (1 : Fin 2) * 5632 + 1 * k.val = k.val; omega

theorem emb1 (t : Fin cfg0.N) (k : Fin 5632) (n : Fin 512) : ((cfg0.win 1).blk t).view.emb (ix2 k n) = ix2 k (col t n) := by
  obtain ⟨-, -, e0, e1, -⟩ := idx_facts t
  funext a; apply Fin.ext
  match a with
  | ⟨0, _⟩ => show win0_1.index t (0 : Fin 2) * 5632 + 1 * k.val = k.val; omega
  | ⟨1, _⟩ => show win0_1.index t (1 : Fin 2) * 512 + 1 * n.val = t.val * 512 + n.val; omega

theorem emb2 (t : Fin cfg0.N) (n : Fin 512) : ((cfg0.win 2).blk t).view.emb (ix2 0 n) = ix2 0 (col t n) := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 512 + 1 * n.val = t.val * 512 + n.val; omega

theorem emb3 (t : Fin cfg0.N) (n : Fin 512) : ((cfg0.win 3).blk t).view.emb (ix2 0 n) = ix2 0 (col t n) := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 512 + 1 * n.val = t.val * 512 + n.val; omega

theorem emb4 (t : Fin cfg0.N) (r : Fin 24) (n : Fin 512) : ((cfg0.win 4).blk t).view.emb (ix2 r n) = ix2 r (col t n) := by
  obtain ⟨-, -, -, -, -, -, -, -, e0, e1⟩ := idx_facts t
  funext a; apply Fin.ext
  match a with
  | ⟨0, _⟩ => show win0_4.index t (0 : Fin 2) * 24 + 1 * r.val = r.val; omega
  | ⟨1, _⟩ => show win0_4.index t (1 : Fin 2) * 512 + 1 * n.val = t.val * 512 + n.val; omega

/-- The activations' block at any point is the argument. -/
theorem x_block (c : Dev nD) (t : Fin cfg0.N) (r : Fin 24) (k : Fin 5632) :
    iblk m c 0 t (ix2 r k) = m ((c : Thread nD τ).loc main_arg0) (ix3 r 0 k) := by
  show V m c main_v0 (((cfg0.win 0).blk t).view.emb (ix2 r k)) = _
  rw [emb0, V_v0]
  exact dropUnit_apply _ r k

/-- The weight codes' block at point `t` is columns `512 t …` of the argument. -/
theorem w_block (c : Dev nD) (t : Fin cfg0.N) (k : Fin 5632) (n : Fin 512) :
    iblk m c 1 t (ix2 k n) = m ((c : Thread nD τ).loc main_arg1) (ix2 k (col t n)) := by
  show V m c main_arg1 (((cfg0.win 1).blk t).view.emb (ix2 k n)) = _
  rw [emb1, V_main_arg1]

/-- The scales' block at point `t`. -/
theorem s_block (c : Dev nD) (t : Fin cfg0.N) (n : Fin 512) :
    iblk m c 2 t (ix2 0 n) = m ((c : Thread nD τ).loc main_arg2) (ix1 (col t n)) := by
  show V m c main_v1 (((cfg0.win 2).blk t).view.emb (ix2 0 n)) = _
  rw [emb2, V_v1]
  exact row_apply _ _

/-- The bias's block at point `t`. -/
theorem b_block (c : Dev nD) (t : Fin cfg0.N) (n : Fin 512) :
    iblk m c 3 t (ix2 0 n) = m ((c : Thread nD τ).loc main_arg3) (ix1 (col t n)) := by
  show V m c main_v2 (((cfg0.win 3).blk t).view.emb (ix2 0 n)) = _
  rw [emb3, V_v2]
  exact row_apply _ _

theorem hz : (![0, 0] : Fin 2 → Nat) = fun _ => 0 := funext fun a => by fin_cases a <;> rfl

/-- The body's one store covers its block, and its loads are of whole blocks. -/
theorem out_eq (x0 : Vec Ideal S24x5632 .bf16) (x1 : Vec Ideal S5632x512 .fp8e4m3) (x2 x3 : Vec Ideal S1x512 .f32) :
    out0_4 (F := Ideal) x0 x1 x2 x3 = k0_pay1 x1 x2 x0 x3 := by
  unfold out0_4
  rw [View.canon_unit_zero hz, View.ld_unit_zero (S := S24x5632) hz _ x0, View.ld_unit_zero (S := S5632x512) hz _ x1,
    View.ld_unit_zero (S := S1x512) hz _ x2, View.ld_unit_zero (S := S1x512) hz _ x3]

/-- What point `t` writes back is its block of the layer. -/
theorem flushed_eq (c : Dev nD) (t : Fin cfg0.N) :
    (dats m 0 c).flushed 4 t = ((cfg0.win 4).blk t).view.read (Elt Ideal) (result2 m c) := by
  show (cfg0.win 4).cut (grid0.coords t) ((dats m 0 c).after 4 t) = _
  rw [after0_4, out_eq]
  funext j
  show k0_pay1 (F := Ideal) (iblk m c 1 t) (iblk m c 2 t) (iblk m c 0 t) (iblk m c 3 t) j
    = result2 m c (((cfg0.win 4).blk t).view.emb j)
  obtain ⟨r, n, rfl⟩ : ∃ (r : Fin 24) (n : Fin 512), j = ix2 r n := ⟨j 0, j 1, eq_ix2 j⟩
  rw [stored_apply, emb4, s_block, b_block]
  simp only [x_block, w_block]
  rfl

/-- Every index of the array is in some point's block. -/
theorem covered (i : S24x8192.Idx) : ∃ t : Fin cfg0.N, (cfg0.win 4).flush t = true ∧ i ∈ ((cfg0.win 4).blk t).view.set := by
  obtain ⟨r, n, rfl⟩ : ∃ (r : Fin 24) (n : Fin 8192), i = ix2 r n := ⟨i 0, i 1, eq_ix2 i⟩
  have hn : n.val < 8192 := n.isLt
  have ht : n.val / 512 < 16 := by omega
  let t : Fin cfg0.N := (⟨n.val / 512, ht⟩ : Fin 16)
  let l : Fin 512 := ⟨n.val % 512, by omega⟩
  refine ⟨t, flush0_4 _, ?_⟩
  have h := ((cfg0.win 4).blk t).view.emb_mem_set (ix2 r l)
  have e : col t l = n := Fin.ext (show n.val / 512 * 512 + n.val % 512 = n.val by omega)
  rwa [emb4, e] at h

/-- The array that the pallas_call leaves is the layer of the arguments. -/
theorem final (c : Dev nD) : (dats m 0 c).arrAt 4 cfg0.N = result2 m c :=
  (dats m 0 c).arrAt_eq_of_cover 4 (result2 m c) (fun t _ => flushed_eq m c t) covered

/-! ## The reshape after the call, and the run -/

/-- The result after the last host line. -/
theorem tail_eq (c : Dev nD) :
    Pipeline.afterTail₀ cfgs (dats m) 0 (V0 m) [hostOps1] c main_v4 = result m c := by
  have h : Pipeline.withArrays spec0 c (V0 m c) (fun w => (dats m 0 c).arrAt w cfg0.N) (Proc.devRef .tc main_v3) = result2 m c :=
    (Pipeline.withArrays_arr spec0 launch0.win.arr_inj c (V0 m c) _ 4).trans (final m c)
  show StableHlo.after [StableHlo.reshape main_v3 main_v4 (rfl : (.bf16 : EltTy) = .bf16) shapeCasts_S24x8192_S24x1x8192]
    (Pipeline.withArrays spec0 c (V0 m c) fun w => (dats m 0 c).arrAt w cfg0.N) (Proc.devRef .tc main_v4) = _
  rw [StableHlo.after_cons, StableHlo.after_nil, StableHlo.reshape_result, h]
  funext i
  idx_vars i
  exact addUnit_apply _ _ _ _

/-- From any memory, the kernel's run ends with the layer of the arguments as its result and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h.1 c).2 main_v4 (Pipeline.mem_restRefs_of main_v4 (by decide) (by decide))).trans (tail_eq m c), h.2 c⟩)
    (θ_run_and (run_main m ρ) (unchanged m ρ))

end Cert.KernelIdeal.Hand

end
-- ==== Proof.RefValue.lean ====
/- What the reference computes: its one store holds `Linear.linear` of the four arguments. -/
module

public import proofs.«01_k».proof.Proof.Gen.ReferenceIdeal.Value
public import proofs.«01_k».proof.Proof.Spec

@[expose] public section

set_option maxRecDepth 16384

noncomputable section

namespace Cert.ReferenceIdeal.Hand

open Cert.ReferenceIdeal Cert.ReferenceIdeal.Gen Idealize.ShloMosaic Idealize.ShloMosaic.TcCoe

/-- The value that the reference stores, at every index, is the linear layer of its arguments. -/
theorem stored_eq (x : Vec Ideal S24x1x5632 .bf16) (w : Vec Ideal S5632x8192 .fp8e4m3) (s b : Vec Ideal S8192 .f32) :
    Value.G4 (F := Ideal) x w s b = Linear.linear x w s b := by
  funext i
  idx_vars i
  obtain rfl : i1 = 0 := Subsingleton.elim _ _
  pointwise [Value.G4, k0_pay1, Linear.linear, Linear.element]

end Cert.ReferenceIdeal.Hand

end
-- ==== Proof.lean ====
/- The five claims about the fp8 weight-only linear layer, assembled. The frames are the generated ones. `preserves` has no
   rewrite to justify. `algebraic` sets the kernel's run (Proof/KernelValue.lean) beside the reference's
   (Proof/Gen/ReferenceIdeal/Value.lean, read in Proof/RefValue.lean): both results are `Linear.linear` of the four
   arguments (Proof/Spec.lean). -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The kernel and the reference, from memories that agree on the arguments, end with the same result: the linear layer. -/
theorem values_agree : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Hand.result m c, Cert.KernelIdeal.Hand.run m g,
    (θ_run _ _ _).mono (fun _ h c => ⟨(h c).1.trans (by
        rw [Cert.ReferenceIdeal.Hand.stored_eq, (hagree c).1, (hagree c).2.1, (hagree c).2.2.1, (hagree c).2.2.2]),
      (h c).2⟩) (Cert.ReferenceIdeal.Value.run m' g')⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  values_agree⟩

end Cert.Proof

end
